-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sensor_grid [hPre_sensor_grid : Cert.Pre_sensor_grid.Facts] (m : (ℓ : Loc Cert.KernelIdeal.nD Cert.KernelIdeal.τ Cert.KernelIdeal.sig) → Buf (Elt Ideal) ℓ) : Prop :=
  ∀ c : Dev Cert.KernelIdeal.nD,
    (Cert.Pre_sensor_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sensor_grid [hPre_sensor_grid : Cert.Pre_sensor_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sensor_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_sensor_grid [hKernelIdeal : Cert.KernelIdeal.Facts] [hPre_sensor_grid : Cert.Pre_sensor_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sensor_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_sensor_grid [hReferenceIdeal : Cert.ReferenceIdeal.Facts] [hPre_sensor_grid : Cert.Pre_sensor_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sensor_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "neg_tenth" .f32 0xBDCCCCCD#32 (((-10)⁻¹ : ℝ) : EReal)

def algebraic_KernelIdeal_ReferenceIdeal_pre_sensor_grid [hKernelIdeal : Cert.KernelIdeal.Facts] [hReferenceIdeal : Cert.ReferenceIdeal.Facts] [hPre_sensor_grid : Cert.Pre_sensor_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sensor_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_sensor_grid : Cert.Pre_sensor_grid.Facts),
    quiescent_Kernel (hKernel := hKernel)
    ∧ quiescent_KernelIdeal (hKernelIdeal := hKernelIdeal)
    ∧ quiescent_KernelIdeal_pre_sensor_grid (hKernelIdeal := hKernelIdeal) (hPre_sensor_grid := hPre_sensor_grid)
    ∧ quiescent_ReferenceIdeal (hReferenceIdeal := hReferenceIdeal)
    ∧ quiescent_ReferenceIdeal_pre_sensor_grid (hReferenceIdeal := hReferenceIdeal) (hPre_sensor_grid := hPre_sensor_grid)
    ∧ preserves_Kernel_KernelIdeal
    ∧ algebraic_KernelIdeal_ReferenceIdeal_pre_sensor_grid (hKernelIdeal := hKernelIdeal) (hReferenceIdeal := hReferenceIdeal) (hPre_sensor_grid := hPre_sensor_grid)
-- ==== Pre_sensor_grid.lean ====
abbrev S4x5000x2 : Shape := ⟨3, ![4, 5000, 2]⟩
abbrev S4x5000 : Shape := ⟨2, ![4, 5000]⟩
abbrev S2x64 : Shape := ⟨2, ![2, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S48x48x2 : Shape := ⟨3, ![48, 48, 2]⟩
abbrev S48x48x1 : Shape := ⟨3, ![48, 48, 1]⟩
abbrev S48x48 : Shape := ⟨2, ![48, 48]⟩
abbrev S48x1 : Shape := ⟨2, ![48, 1]⟩
abbrev S1x48 : Shape := ⟨2, ![1, 48]⟩
abbrev S_ : Shape := ⟨0, ![]⟩

class Facts : Prop where
  slices_S48x48x2_S48x48x1_0_0_0 : S48x48x2.Slices ![0, 0, 0] S48x48x1
  shapeCasts_S48x48x1_S48x48 : S48x48x1.ShapeCasts S48x48
  slices_S48x48x2_S48x48x1_0_0_1 : S48x48x2.Slices ![0, 0, 1] S48x48x1
  slices_S48x48_S48x1_0_0 : S48x48.Slices ![0, 0] S48x1
  bcast_S48x1_S48x48_0_1 : S48x1.BroadcastsInDim S48x48 (![0, 1] : Fin 2 → Fin S48x48.rank)
  slices_S48x48_S1x48_0_0 : S48x48.Slices ![0, 0] S1x48
  bcast_S1x48_S48x48_0_1 : S1x48.BroadcastsInDim S48x48 (![0, 1] : Fin 2 → Fin S48x48.rank)
  shapeCasts_S1_S_ : S1.ShapeCasts S_
  bcast_S_S48x48 : S_.BroadcastsInDim S48x48 (![] : Fin 0 → Fin S48x48.rank)

variable [Facts]

def fn {F : FTy → Type} [FloatOps F] (main_arg0 : FVec F S4x5000x2 .f32) (main_arg1 : FVec F S4x5000 .f32) (main_arg2 : FVec F S4x5000 .f32) (main_arg3 : FVec F S2x64 .f32) (main_arg4 : FVec F S64 .f32) (main_arg5 : FVec F S64x128 .f32) (main_arg6 : FVec F S128 .f32) (main_arg7 : FVec F S128x1 .f32) (main_arg8 : FVec F S1 .f32) (main_arg9 : FVec F S1 .f32) (main_arg10 : FVec F S48x48x2 .f32) : IVec S48x48 1 :=
  let main_v0 : FVec F S48x48x1 .f32 := (extractStridedSlice S48x48x1 ![0, 0, 0] · slices_S48x48x2_S48x48x1_0_0_0) main_arg10
  let main_v1 : FVec F S48x48 .f32 := shapeCast S48x48 main_v0 shapeCasts_S48x48x1_S48x48
  let main_v2 : FVec F S48x48x1 .f32 := (extractStridedSlice S48x48x1 ![0, 0, 1] · slices_S48x48x2_S48x48x1_0_0_1) main_arg10
  let main_v3 : FVec F S48x48 .f32 := shapeCast S48x48 main_v2 shapeCasts_S48x48x1_S48x48
  let main_v4 : FVec F S48x1 .f32 := (extractStridedSlice S48x1 ![0, 0] · slices_S48x48_S48x1_0_0) main_v1
  let main_v5 : FVec F S48x48 .f32 := broadcastInDim S48x48 ![0, 1] bcast_S48x1_S48x48_0_1 main_v4
  let main_v6 : IVec S48x48 1 := cmpf .oeq main_v1 main_v5
  let main_v7 : FVec F S1x48 .f32 := (extractStridedSlice S1x48 ![0, 0] · slices_S48x48_S1x48_0_0) main_v3
  let main_v8 : FVec F S48x48 .f32 := broadcastInDim S48x48 ![0, 1] bcast_S1x48_S48x48_0_1 main_v7
  let main_v9 : IVec S48x48 1 := cmpf .oeq main_v3 main_v8
  let main_v10 : IVec S48x48 1 := andi main_v6 main_v9
  let main_v11 : FVec F S_ .f32 := shapeCast S_ main_arg9 shapeCasts_S1_S_
  let main_cst : FVec F S_ .f32 := constant S_ .f32 0x00000000#32
  let main_v12 : IVec S_ 1 := cmpf .une main_v11 main_cst
  let main_v13 : IVec S48x48 1 := broadcastInDim S48x48 ![] bcast_S_S48x48 main_v12
  let main_v14 : IVec S48x48 1 := andi main_v10 main_v13
  main_v14
-- ==== Kernel.lean ====
abbrev S4x5000x2 : Shape := ⟨3, ![4, 5000, 2]⟩
abbrev S4x5000 : Shape := ⟨2, ![4, 5000]⟩
abbrev S2x64 : Shape := ⟨2, ![2, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S48x48x2 : Shape := ⟨3, ![48, 48, 2]⟩
abbrev S20000x2 : Shape := ⟨2, ![20000, 2]⟩
abbrev S2x20000 : Shape := ⟨2, ![2, 20000]⟩
abbrev S1x20000 : Shape := ⟨2, ![1, 20000]⟩
abbrev S3x20000 : Shape := ⟨2, ![3, 20000]⟩
abbrev S_ : Shape := ⟨0, ![]⟩
abbrev S3x20480 : Shape := ⟨2, ![3, 20480]⟩
abbrev S20000x1 : Shape := ⟨2, ![20000, 1]⟩
abbrev S20480x1 : Shape := ⟨2, ![20480, 1]⟩
abbrev S2304x2 : Shape := ⟨2, ![2304, 2]⟩
abbrev S48x1 : Shape := ⟨2, ![48, 1]⟩
abbrev S3 : Shape := ⟨1, ![3]⟩
abbrev S64x2 : Shape := ⟨2, ![64, 2]⟩
abbrev S64x1 : Shape := ⟨2, ![64, 1]⟩
abbrev S128x64 : Shape := ⟨2, ![128, 64]⟩
abbrev S1x128 : Shape := ⟨2, ![1, 128]⟩
abbrev S2304x512 : Shape := ⟨2, ![2304, 512]⟩
abbrev S3x4096 : Shape := ⟨2, ![3, 4096]⟩
abbrev S4096x1 : Shape := ⟨2, ![4096, 1]⟩
abbrev S2x4096 : Shape := ⟨2, ![2, 4096]⟩
abbrev S1x4096 : Shape := ⟨2, ![1, 4096]⟩
abbrev S64x4096 : Shape := ⟨2, ![64, 4096]⟩
abbrev S128x4096 : Shape := ⟨2, ![128, 4096]⟩
abbrev S48x4096 : Shape := ⟨2, ![48, 4096]⟩
abbrev S48x1x4096 : Shape := ⟨3, ![48, 1, 4096]⟩
abbrev S1x48x4096 : Shape := ⟨3, ![1, 48, 4096]⟩
abbrev S48x48x4096 : Shape := ⟨3, ![48, 48, 4096]⟩
abbrev S2304x4096 : Shape := ⟨2, ![2304, 4096]⟩
abbrev S1x512 : Shape := ⟨2, ![1, 512]⟩
abbrev S4096x512 : Shape := ⟨2, ![4096, 512]⟩
abbrev S48x48x512 : Shape := ⟨3, ![48, 48, 512]⟩

abbrev nBuf : Space → Nat
  | .hbm => 47
  | .vmem => 12
  | .smem => 1
  | _ => 0

abbrev bufTy : (tb : Table) → Fin (tcTables nBuf tb) → BufTy
  | .hbm, ⟨0, _⟩ => ⟨S4x5000x2, .f32⟩
  | .hbm, ⟨1, _⟩ => ⟨S4x5000, .f32⟩
  | .hbm, ⟨2, _⟩ => ⟨S4x5000, .f32⟩
  | .hbm, ⟨3, _⟩ => ⟨S2x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1, .f32⟩
  | .hbm, ⟨10, _⟩ => ⟨S48x48x2, .f32⟩
  | .hbm, ⟨11, _⟩ => ⟨S20000x2, .f32⟩
  | .hbm, ⟨12, _⟩ => ⟨S2x20000, .f32⟩
  | .hbm, ⟨13, _⟩ => ⟨S1x20000, .f32⟩
  | .hbm, ⟨14, _⟩ => ⟨S3x20000, .f32⟩
  | .hbm, ⟨15, _⟩ => ⟨S_, .i32⟩
  | .hbm, ⟨16, _⟩ => ⟨S_, .f32⟩
  | .hbm, ⟨17, _⟩ => ⟨S3x20480, .f32⟩
  | .hbm, ⟨18, _⟩ => ⟨S20000x1, .f32⟩
  | .hbm, ⟨19, _⟩ => ⟨S_, .i32⟩
  | .hbm, ⟨20, _⟩ => ⟨S_, .f32⟩
  | .hbm, ⟨21, _⟩ => ⟨S20480x1, .f32⟩
  | .hbm, ⟨22, _⟩ => ⟨S2304x2, .f32⟩
  | .hbm, ⟨23, _⟩ => ⟨S48x1, .f32⟩
  | .hbm, ⟨24, _⟩ => ⟨S48x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S3, .f32⟩
  | .hbm, ⟨40, _⟩ => ⟨S64x2, .f32⟩
  | .hbm, ⟨41, _⟩ => ⟨S64x1, .f32⟩
  | .hbm, ⟨42, _⟩ => ⟨S128x64, .f32⟩
  | .hbm, ⟨43, _⟩ => ⟨S128x1, .f32⟩
  | .hbm, ⟨44, _⟩ => ⟨S1x128, .f32⟩
  | .hbm, ⟨45, _⟩ => ⟨S2304x512, .f32⟩
  | .hbm, ⟨46, _⟩ => ⟨S48x48x512, .f32⟩
  | .local _ .vmem, ⟨0, _⟩ => ⟨S3x4096, .f32⟩
  | .local _ .vmem, ⟨1, _⟩ => ⟨S3x4096, .f32⟩
  | .local _ .vmem, ⟨2, _⟩ => ⟨S4096x1, .f32⟩
  | .local _ .vmem, ⟨3, _⟩ => ⟨S4096x1, .f32⟩
  | .local _ .vmem, ⟨4, _⟩ => ⟨S48x1, .f32⟩
  | .local _ .vmem, ⟨5, _⟩ => ⟨S48x1, .f32⟩
  | .local _ .vmem, ⟨6, _⟩ => ⟨S64x2, .f32⟩
  | .local _ .vmem, ⟨7, _⟩ => ⟨S64x1, .f32⟩
  | .local _ .vmem, ⟨8, _⟩ => ⟨S128x64, .f32⟩
  | .local _ .vmem, ⟨9, _⟩ => ⟨S128x1, .f32⟩
  | .local _ .vmem, ⟨10, _⟩ => ⟨S1x128, .f32⟩
  | .local _ .vmem, ⟨11, _⟩ => ⟨S2304x512, .f32⟩
  | .local _ .smem, ⟨0, _⟩ => ⟨S3, .f32⟩
  | _, _ => ⟨S4x5000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c0_i32 : BitVec 32 := 0#32
  let v79 : BitVec 1 := Scalar.cmpi .eq arg1 c0_i32
  let v80 : BitVec 32 := Scalar.extui v79
  let c0_i32_31 : BitVec 32 := 0#32
  let v81 : BitVec 1 := Scalar.cmpi .ne v80 c0_i32_31
  v81

def k0_cond2 (i : grid0.Coords) : BitVec 1 :=
  let arg1 : BitVec 32 := BitVec.ofNat 32 (i 1).val
  let c0_i32_32 : BitVec 32 := 0#32
  let v82 : BitVec 1 := Scalar.cmpi .ne arg1 c0_i32_32
  let v83 : BitVec 32 := Scalar.extui v82
  let c0_i32_33 : BitVec 32 := 0#32
  let v84 : BitVec 1 := Scalar.cmpi .ne v83 c0_i32_33
  v84

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S48x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S48x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2304x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "neg_tenth" => some (((-10)⁻¹ : ℝ) : EReal)
  | _ => none
-- ==== ReferenceIdeal.lean ====
abbrev S4x5000x2 : Shape := ⟨3, ![4, 5000, 2]⟩
abbrev S4x5000 : Shape := ⟨2, ![4, 5000]⟩
abbrev S2x64 : Shape := ⟨2, ![2, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S48x48x2 : Shape := ⟨3, ![48, 48, 2]⟩
abbrev S4x5000x64 : Shape := ⟨3, ![4, 5000, 64]⟩
abbrev S1x1x64 : Shape := ⟨3, ![1, 1, 64]⟩
abbrev S_ : Shape := ⟨0, ![]⟩
abbrev S4x5000x128 : Shape := ⟨3, ![4, 5000, 128]⟩
abbrev S1x1x128 : Shape := ⟨3, ![1, 1, 128]⟩
abbrev S4x5000x1 : Shape := ⟨3, ![4, 5000, 1]⟩
abbrev S1x1x1 : Shape := ⟨3, ![1, 1, 1]⟩
abbrev S4x5000x1x1x2 : Shape := ⟨5, ![4, 5000, 1, 1, 2]⟩
abbrev S1x1x48x48x2 : Shape := ⟨5, ![1, 1, 48, 48, 2]⟩
abbrev S4x5000x48x48x2 : Shape := ⟨5, ![4, 5000, 48, 48, 2]⟩
abbrev S4x5000x48x48 : Shape := ⟨4, ![4, 5000, 48, 48]⟩
abbrev S4x5000x1x1 : Shape := ⟨4, ![4, 5000, 1, 1]⟩
abbrev S512 : Shape := ⟨1, ![512]⟩
abbrev S1x1x512 : Shape := ⟨3, ![1, 1, 512]⟩
abbrev S4x5000x512 : Shape := ⟨3, ![4, 5000, 512]⟩
abbrev S4x5000x2304 : Shape := ⟨3, ![4, 5000, 2304]⟩
abbrev S4x512x2304 : Shape := ⟨3, ![4, 512, 2304]⟩
abbrev S4x512x48x48 : Shape := ⟨4, ![4, 512, 48, 48]⟩
abbrev S4x48x48x512 : Shape := ⟨4, ![4, 48, 48, 512]⟩
abbrev S48x48x512 : Shape := ⟨3, ![48, 48, 512]⟩

abbrev nBuf : Space → Nat
  | .hbm => 80
  | .vmem => 0
  | .smem => 0
  | _ => 0

abbrev bufTy : (tb : Table) → Fin (tcTables nBuf tb) → BufTy
  | .hbm, ⟨0, _⟩ => ⟨S4x5000x2, .f32⟩
  | .hbm, ⟨1, _⟩ => ⟨S4x5000, .f32⟩
  | .hbm, ⟨2, _⟩ => ⟨S4x5000, .f32⟩
  | .hbm, ⟨3, _⟩ => ⟨S2x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1, .f32⟩
  | .hbm, ⟨10, _⟩ => ⟨S48x48x2, .f32⟩
  | .hbm, ⟨11, _⟩ => ⟨S4x5000x64, .f32⟩
  | .hbm, ⟨12, _⟩ => ⟨S1x1x64, .f32⟩
  | .hbm, ⟨13, _⟩ => ⟨S4x5000x64, .f32⟩
  | .hbm, ⟨14, _⟩ => ⟨S4x5000x64, .f32⟩
  | .hbm, ⟨15, _⟩ => ⟨S_, .f32⟩
  | .hbm, ⟨16, _⟩ => ⟨S4x5000x64, .f32⟩
  | .hbm, ⟨17, _⟩ => ⟨S4x5000x64, .f32⟩
  | .hbm, ⟨18, _⟩ => ⟨S4x5000x128, .f32⟩
  | .hbm, ⟨19, _⟩ => ⟨S1x1x128, .f32⟩
  | .hbm, ⟨20, _⟩ => ⟨S4x5000x128, .f32⟩
  | .hbm, ⟨21, _⟩ => ⟨S4x5000x128, .f32⟩
  | .hbm, ⟨22, _⟩ => ⟨S_, .f32⟩
  | .hbm, ⟨23, _⟩ => ⟨S4x5000x128, .f32⟩
  | .hbm, ⟨24, _⟩ => ⟨S4x5000x128, .f32⟩
  | .hbm, ⟨25, _⟩ => ⟨S4x5000x1, .f32⟩
  | .hbm, ⟨26, _⟩ => ⟨S1x1x1, .f32⟩
  | .hbm, ⟨27, _⟩ => ⟨S4x5000x1, .f32⟩
  | .hbm, ⟨28, _⟩ => ⟨S4x5000x1, .f32⟩
  | .hbm, ⟨29, _⟩ => ⟨S4x5000, .f32⟩
  | .hbm, ⟨30, _⟩ => ⟨S4x5000x1x1x2, .f32⟩
  | .hbm, ⟨31, _⟩ => ⟨S1x1x48x48x2, .f32⟩
  | .hbm, ⟨32, _⟩ => ⟨S4x5000x48x48x2, .f32⟩
  | .hbm, ⟨33, _⟩ => ⟨S4x5000x48x48x2, .f32⟩
  | .hbm, ⟨34, _⟩ => ⟨S4x5000x48x48x2, .f32⟩
  | .hbm, ⟨35, _⟩ => ⟨S4x5000x48x48x2, .f32⟩
  | .hbm, ⟨36, _⟩ => ⟨S_, .f32⟩
  | .hbm, ⟨37, _⟩ => ⟨S4x5000x48x48, .f32⟩
  | .hbm, ⟨38, _⟩ => ⟨S_, .f32⟩
  | .hbm, ⟨39, _⟩ => ⟨S_, .f32⟩
  | .hbm, ⟨40, _⟩ => ⟨S4x5000x48x48, .f32⟩
  | .hbm, ⟨41, _⟩ => ⟨S4x5000x48x48, .f32⟩
  | .hbm, ⟨42, _⟩ => ⟨S_, .f32⟩
  | .hbm, ⟨43, _⟩ => ⟨S4x5000x48x48, .f32⟩
  | .hbm, ⟨44, _⟩ => ⟨S4x5000x48x48, .f32⟩
  | .hbm, ⟨45, _⟩ => ⟨S4x5000x48x48, .f32⟩
  | .hbm, ⟨46, _⟩ => ⟨S_, .f32⟩
  | .hbm, ⟨47, _⟩ => ⟨S4x5000x48x48, .f32⟩
  | .hbm, ⟨48, _⟩ => ⟨S4x5000x48x48, .f32⟩
  | .hbm, ⟨49, _⟩ => ⟨S_, .f32⟩
  | .hbm, ⟨50, _⟩ => ⟨S_, .f32⟩
  | .hbm, ⟨51, _⟩ => ⟨S4x5000x48x48, .f32⟩
  | .hbm, ⟨52, _⟩ => ⟨S4x5000x48x48, .f32⟩
  | .hbm, ⟨53, _⟩ => ⟨S4x5000x1x1, .f32⟩
  | .hbm, ⟨54, _⟩ => ⟨S4x5000x48x48, .f32⟩
  | .hbm, ⟨55, _⟩ => ⟨S4x5000x48x48, .f32⟩
  | .hbm, ⟨56, _⟩ => ⟨S512, .f32⟩
  | .hbm, ⟨57, _⟩ => ⟨S1x1x512, .f32⟩
  | .hbm, ⟨58, _⟩ => ⟨S4x5000x1, .f32⟩
  | .hbm, ⟨59, _⟩ => ⟨S4x5000x512, .f32⟩
  | .hbm, ⟨60, _⟩ => ⟨S4x5000x512, .f32⟩
  | .hbm, ⟨61, _⟩ => ⟨S4x5000x512, .f32⟩
  | .hbm, ⟨62, _⟩ => ⟨S4x5000x512, .f32⟩
  | .hbm, ⟨63, _⟩ => ⟨S4x5000x512, .f32⟩
  | .hbm, ⟨64, _⟩ => ⟨S_, .f32⟩
  | .hbm, ⟨65, _⟩ => ⟨S4x5000x512, .f32⟩
  | .hbm, ⟨66, _⟩ => ⟨S4x5000x512, .f32⟩
  | .hbm, ⟨67, _⟩ => ⟨S4x5000x512, .f32⟩
  | .hbm, ⟨68, _⟩ => ⟨S_, .f32⟩
  | .hbm, ⟨69, _⟩ => ⟨S4x5000x512, .f32⟩
  | .hbm, ⟨70, _⟩ => ⟨S4x5000x512, .f32⟩
  | .hbm, ⟨71, _⟩ => ⟨S4x5000x1, .f32⟩
  | .hbm, ⟨72, _⟩ => ⟨S4x5000x512, .f32⟩
  | .hbm, ⟨73, _⟩ => ⟨S4x5000x512, .f32⟩
  | .hbm, ⟨74, _⟩ => ⟨S4x5000x2304, .f32⟩
  | .hbm, ⟨75, _⟩ => ⟨S4x512x2304, .f32⟩
  | .hbm, ⟨76, _⟩ => ⟨S4x512x48x48, .f32⟩
  | .hbm, ⟨77, _⟩ => ⟨S4x48x48x512, .f32⟩
  | .hbm, ⟨78, _⟩ => ⟨S_, .f32⟩
  | .hbm, ⟨79, _⟩ => ⟨S48x48x512, .f32⟩
  | _, _ => ⟨S4x5000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.Read.lean ====
/- The arrays that the kernel lays out before its launch, read at one index: the electrons in one padded list, the
   sensors' coordinates as a column of the grid's rows and a column of its columns. -/
module

public import proofs.«01_k».proof.Proof.Gen.KernelIdeal.Skeleton
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

/-- The place of electron `(b, e)` in the padded list. -/
def place (b : Fin 4) (e : Fin 5000) : Fin 20480 := ⟨b * 5000 + e, by omega⟩

/-- The place as a number. -/
theorem place_val (b : Fin 4) (e : Fin 5000) : ((place b e : Fin 20480) : ℕ) = b * 5000 + e := rfl

/-- A padding entry is zero. -/
theorem fill_zero : (FloatOps.sitofp (F := Ideal) .f32 (0#32) : EReal) = 0 := by
  show (((0#32 : BitVec 32).toInt : ℝ) : EReal) = 0
  simp

/-- Row 0 of the padded data at an electron's place. -/
theorem data_x (X : FVec Ideal S4x5000x2 .f32) (M : FVec Ideal S4x5000 .f32) (b : Fin 4) (e : Fin 5000) :
    (pad S3x20480 ![0, 0] ![0, 480] ![0, 0]
      (concatenate S3x20000 0 [⟨S2x20000, transpose S2x20000 [1, 0] (shapeCast S20000x2 X
          shapeCasts_S4x5000x2_S20000x2 : FVec Ideal S20000x2 .f32) transposes_S20000x2_S2x20000_1_0⟩,
        ⟨S1x20000, (shapeCast S1x20000 M shapeCasts_S4x5000_S1x20000 : FVec Ideal S1x20000 .f32)⟩]
        concatenates_S2x20000_S1x20000_S3x20000_d0)
      (sitofp (F := Ideal) .f32 (constantI S_ 32 0#32)) pads_S3x20000_S3x20480_000_04800 h_S_ : FVec Ideal S3x20480 .f32) (ix2 0 (place b e)) = X (ix3 b e 0) := by
  have h := place_val b e
  generalize place b e = k at h
  pointwise
  rw [dif_pos (by omega)]
  blk_ext

/-- Row 1 of the padded data at an electron's place. -/
theorem data_y (X : FVec Ideal S4x5000x2 .f32) (M : FVec Ideal S4x5000 .f32) (b : Fin 4) (e : Fin 5000) :
    (pad S3x20480 ![0, 0] ![0, 480] ![0, 0]
      (concatenate S3x20000 0 [⟨S2x20000, transpose S2x20000 [1, 0] (shapeCast S20000x2 X
          shapeCasts_S4x5000x2_S20000x2 : FVec Ideal S20000x2 .f32) transposes_S20000x2_S2x20000_1_0⟩,
        ⟨S1x20000, (shapeCast S1x20000 M shapeCasts_S4x5000_S1x20000 : FVec Ideal S1x20000 .f32)⟩]
        concatenates_S2x20000_S1x20000_S3x20000_d0)
      (sitofp (F := Ideal) .f32 (constantI S_ 32 0#32)) pads_S3x20000_S3x20480_000_04800 h_S_ : FVec Ideal S3x20480 .f32) (ix2 1 (place b e)) = X (ix3 b e 1) := by
  have h := place_val b e
  generalize place b e = k at h
  pointwise
  rw [dif_pos (by omega)]
  blk_ext

/-- Row 2 of the padded data at an electron's place. -/
theorem data_mask (X : FVec Ideal S4x5000x2 .f32) (M : FVec Ideal S4x5000 .f32) (b : Fin 4) (e : Fin 5000) :
    (pad S3x20480 ![0, 0] ![0, 480] ![0, 0]
      (concatenate S3x20000 0 [⟨S2x20000, transpose S2x20000 [1, 0] (shapeCast S20000x2 X
          shapeCasts_S4x5000x2_S20000x2 : FVec Ideal S20000x2 .f32) transposes_S20000x2_S2x20000_1_0⟩,
        ⟨S1x20000, (shapeCast S1x20000 M shapeCasts_S4x5000_S1x20000 : FVec Ideal S1x20000 .f32)⟩]
        concatenates_S2x20000_S1x20000_S3x20000_d0)
      (sitofp (F := Ideal) .f32 (constantI S_ 32 0#32)) pads_S3x20000_S3x20480_000_04800 h_S_ : FVec Ideal S3x20480 .f32) (ix2 2 (place b e)) = M (ix2 b e) := by
  have h := place_val b e
  generalize place b e = k at h
  pointwise
  rw [dif_pos (by omega)]
  blk_ext

/-- The mask's row of the padded data past the last electron. -/
theorem data_pad (X : FVec Ideal S4x5000x2 .f32) (M : FVec Ideal S4x5000 .f32) (k : Fin 20480) (h : ¬ (k : ℕ) < 20000) :
    (pad S3x20480 ![0, 0] ![0, 480] ![0, 0]
      (concatenate S3x20000 0 [⟨S2x20000, transpose S2x20000 [1, 0] (shapeCast S20000x2 X
          shapeCasts_S4x5000x2_S20000x2 : FVec Ideal S20000x2 .f32) transposes_S20000x2_S2x20000_1_0⟩,
        ⟨S1x20000, (shapeCast S1x20000 M shapeCasts_S4x5000_S1x20000 : FVec Ideal S1x20000 .f32)⟩]
        concatenates_S2x20000_S1x20000_S3x20000_d0)
      (sitofp (F := Ideal) .f32 (constantI S_ 32 0#32)) pads_S3x20000_S3x20480_000_04800 h_S_ : FVec Ideal S3x20480 .f32) (ix2 2 k) = (0 : EReal) := by
  pointwise
  rw [dif_neg h, fill_zero]

/-- The padded times at an electron's place. -/
theorem z_read (Z : FVec Ideal S4x5000 .f32) (b : Fin 4) (e : Fin 5000) :
    (pad S20480x1 ![0, 0] ![480, 0] ![0, 0] (shapeCast S20000x1 Z shapeCasts_S4x5000_S20000x1 : FVec Ideal S20000x1 .f32)
      (sitofp (F := Ideal) .f32 (constantI S_ 32 0#32)) pads_S20000x1_S20480x1_04800_000 h_S_ : FVec Ideal S20480x1 .f32)
      (ix2 (place b e) 0) = Z (ix2 b e) := by
  have h := place_val b e
  generalize place b e = k at h
  pointwise
  rw [dif_pos (by omega)]
  blk_ext

/-- The sensors' first coordinates, read along the first column. -/
theorem gx_read (G : FVec Ideal S48x48x2 .f32) (i : Fin 48) :
    (Host.slice S48x1 ![0, 0] ![48, 1] (shapeCast S2304x2 G shapeCasts_S48x48x2_S2304x2 : FVec Ideal S2304x2 .f32)
      slicesBy_S2304x2_S48x1_0s48_0s1 : FVec Ideal S48x1 .f32) (ix2 i 0) = G (ix3 i 0 0) := by
  pointwise
  blk_ext

/-- The sensors' second coordinates, read along the first row. -/
theorem gy_read (G : FVec Ideal S48x48x2 .f32) (j : Fin 48) :
    (extractStridedSlice S48x1 ![0, 1] (shapeCast S2304x2 G shapeCasts_S48x48x2_S2304x2 : FVec Ideal S2304x2 .f32)
      slices_S2304x2_S48x1_0_1 : FVec Ideal S48x1 .f32) (ix2 j 0) = G (ix3 0 j 1) := by
  pointwise
  blk_ext

end Cert.KernelIdeal.Value

end
-- ==== Proof.Entry.lean ====
/- What the launch is given: the contents of each of its input arrays, and their values at one index in terms of the
   arguments. -/
module

public import proofs.«01_k».proof.Proof.Read
public import proofs.«01_k».proof.Proof.Gen.KernelIdeal.Frame.Runs
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The electrons' coordinates and mask, one row each, padded by zeros. -/
theorem data_eq (c : Dev nD) :
    V m c main_v4 = (pad S3x20480 ![0, 0] ![0, 480] ![0, 0]
      (concatenate S3x20000 0 [⟨S2x20000, transpose S2x20000 [1, 0] (shapeCast S20000x2 (m ((c : Thread nD τ).loc main_arg0))
          shapeCasts_S4x5000x2_S20000x2 : FVec Ideal S20000x2 .f32) transposes_S20000x2_S2x20000_1_0⟩,
        ⟨S1x20000, (shapeCast S1x20000 (m ((c : Thread nD τ).loc main_arg2)) shapeCasts_S4x5000_S1x20000 : FVec Ideal S1x20000 .f32)⟩]
        concatenates_S2x20000_S1x20000_S3x20000_d0)
      (sitofp (F := Ideal) .f32 (constantI S_ 32 0#32)) pads_S3x20000_S3x20480_000_04800 h_S_ : FVec Ideal S3x20480 .f32) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The electrons' times in a column, padded by zeros. -/
theorem z_eq (c : Dev nD) :
    V m c main_v6 = (pad S20480x1 ![0, 0] ![480, 0] ![0, 0] (shapeCast S20000x1 (m ((c : Thread nD τ).loc main_arg1)) shapeCasts_S4x5000_S20000x1 : FVec Ideal S20000x1 .f32)
      (sitofp (F := Ideal) .f32 (constantI S_ 32 0#32)) pads_S20000x1_S20480x1_04800_000 h_S_ : FVec Ideal S20480x1 .f32) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The first coordinate of the sensors of the first column. -/
theorem gx_eq (c : Dev nD) :
    V m c main_v8 = (Host.slice S48x1 ![0, 0] ![48, 1] (shapeCast S2304x2 (m ((c : Thread nD τ).loc main_arg10)) shapeCasts_S48x48x2_S2304x2 : FVec Ideal S2304x2 .f32)
      slicesBy_S2304x2_S48x1_0s48_0s1 : FVec Ideal S48x1 .f32) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The second coordinate of the sensors of the first row. -/
theorem gy_eq (c : Dev nD) :
    V m c main_v9 = (extractStridedSlice S48x1 ![0, 1] (shapeCast S2304x2 (m ((c : Thread nD τ).loc main_arg10)) shapeCasts_S48x48x2_S2304x2 : FVec Ideal S2304x2 .f32)
      slices_S2304x2_S48x1_0_1 : FVec Ideal S48x1 .f32) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The three scalars of the kernel: the scale of the coefficient, the exponent's factor and the last bias. -/
theorem consts_eq (c : Dev nD) :
    V m c main_v20 = (concatenate S3 0
      [⟨S1, broadcastInDim S1 ![] bcast_S_S1 (mulf (Host.divf (constant S_ .f32 0x42C80000#32) (mulf (shapeCast S_ (m ((c : Thread nD τ).loc main_arg9)) shapeCasts_S1_S_ : FVec Ideal S_ .f32)
          (constant S_ .f32 0x40206C22#32))) (constant S_ .f32 0x3E36B1BE#32))⟩,
        ⟨S1, broadcastInDim S1 ![] bcast_S_S1 (Host.divf (constant S_ .f32 0xBF000000#32) (mulf (shapeCast S_ (m ((c : Thread nD τ).loc main_arg9)) shapeCasts_S1_S_ : FVec Ideal S_ .f32)
          (shapeCast S_ (m ((c : Thread nD τ).loc main_arg9)) shapeCasts_S1_S_ : FVec Ideal S_ .f32)))⟩,
        ⟨S1, broadcastInDim S1 ![] bcast_S_S1 (shapeCast S_ (m ((c : Thread nD τ).loc main_arg8)) shapeCasts_S1_S_ : FVec Ideal S_ .f32)⟩]
      concatenates_S1_S1_S1_S3_d0 : FVec Ideal S3 .f32) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The first layer's weights, transposed. -/
theorem W1_eq (c : Dev nD) :
    V m c main_v21 = transpose S64x2 [1, 0] (m ((c : Thread nD τ).loc main_arg3)) transposes_S2x64_S64x2_1_0 := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The first layer's bias as a column. -/
theorem b1_eq (c : Dev nD) :
    V m c main_v22 = (shapeCast S64x1 (m ((c : Thread nD τ).loc main_arg4)) shapeCasts_S64_S64x1 : FVec Ideal S64x1 .f32) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The second layer's weights, transposed. -/
theorem W2_eq (c : Dev nD) :
    V m c main_v23 = transpose S128x64 [1, 0] (m ((c : Thread nD τ).loc main_arg5)) transposes_S64x128_S128x64_1_0 := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The second layer's bias as a column. -/
theorem b2_eq (c : Dev nD) :
    V m c main_v24 = (shapeCast S128x1 (m ((c : Thread nD τ).loc main_arg6)) shapeCasts_S128_S128x1 : FVec Ideal S128x1 .f32) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- The third layer's weights, transposed. -/
theorem W3_eq (c : Dev nD) :
    V m c main_v25 = transpose S1x128 [1, 0] (m ((c : Thread nD τ).loc main_arg7)) transposes_S128x1_S1x128_1_0 := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results_simp <;> rfl

/-- An electron's first coordinate. -/
theorem x_at (c : Dev nD) (b : Fin 4) (e : Fin 5000) :
    (show EReal from V m c main_v4 (ix2 0 (place b e))) = (show EReal from m ((c : Thread nD τ).loc main_arg0) (ix3 b e 0)) := by
  rw [data_eq]
  exact data_x _ _ b e

/-- An electron's second coordinate. -/
theorem y_at (c : Dev nD) (b : Fin 4) (e : Fin 5000) :
    (show EReal from V m c main_v4 (ix2 1 (place b e))) = (show EReal from m ((c : Thread nD τ).loc main_arg0) (ix3 b e 1)) := by
  rw [data_eq]
  exact data_y _ _ b e

/-- An electron's mask. -/
theorem mask_at (c : Dev nD) (b : Fin 4) (e : Fin 5000) :
    (show EReal from V m c main_v4 (ix2 2 (place b e))) = (show EReal from m ((c : Thread nD τ).loc main_arg2) (ix2 b e)) := by
  rw [data_eq]
  exact data_mask _ _ b e

/-- The mask past the last electron. -/
theorem pad_at (c : Dev nD) (k : Fin 20480) (hk : ¬ (k : ℕ) < 20000) :
    (show EReal from V m c main_v4 (ix2 2 k)) = 0 := by
  rw [data_eq]
  exact data_pad _ _ k hk

/-- An electron's time. -/
theorem z_at (c : Dev nD) (b : Fin 4) (e : Fin 5000) :
    (show EReal from V m c main_v6 (ix2 (place b e) 0)) = (show EReal from m ((c : Thread nD τ).loc main_arg1) (ix2 b e)) := by
  rw [z_eq]
  exact z_read _ b e

/-- A sensor row's first coordinate. -/
theorem gx_at (c : Dev nD) (i : Fin 48) :
    (show EReal from V m c main_v8 (ix2 i 0)) = (show EReal from m ((c : Thread nD τ).loc main_arg10) (ix3 i 0 0)) := by
  rw [gx_eq]
  exact gx_read _ i

/-- A sensor column's second coordinate. -/
theorem gy_at (c : Dev nD) (j : Fin 48) :
    (show EReal from V m c main_v9 (ix2 j 0)) = (show EReal from m ((c : Thread nD τ).loc main_arg10) (ix3 0 j 1)) := by
  rw [gy_eq]
  exact gy_read _ j

/-- The coefficient's scale. -/
theorem const0 (c : Dev nD)  :
    (show EReal from V m c main_v20 (ix1 0)) = Ideal.div (Ideal.ofBits .f32 0x42C80000#32) ((show EReal from m ((c : Thread nD τ).loc main_arg9) (ix1 0)) * Ideal.ofBits .f32 0x40206C22#32) * Ideal.ofBits .f32 0x3E36B1BE#32 := by
  rw [consts_eq]
  pointwise

/-- The exponent's factor. -/
theorem const1 (c : Dev nD)  :
    (show EReal from V m c main_v20 (ix1 1)) = Ideal.div (Ideal.ofBits .f32 0xBF000000#32) ((show EReal from m ((c : Thread nD τ).loc main_arg9) (ix1 0)) * (show EReal from m ((c : Thread nD τ).loc main_arg9) (ix1 0))) := by
  rw [consts_eq]
  pointwise

/-- The last bias. -/
theorem const2 (c : Dev nD)  :
    (show EReal from V m c main_v20 (ix1 2)) = (show EReal from m ((c : Thread nD τ).loc main_arg8) (ix1 0)) := by
  rw [consts_eq]
  pointwise

/-- A weight of the first layer. -/
theorem W1_at (c : Dev nD) (k : Fin 64) (d : Fin 2) :
    (show EReal from V m c main_v21 (ix2 k d)) = (show EReal from m ((c : Thread nD τ).loc main_arg3) (ix2 d k)) := by
  rw [W1_eq]
  pointwise

/-- A bias of the first layer. -/
theorem b1_at (c : Dev nD) (k : Fin 64) :
    (show EReal from V m c main_v22 (ix2 k 0)) = (show EReal from m ((c : Thread nD τ).loc main_arg4) (ix1 k)) := by
  rw [b1_eq]
  pointwise

/-- A weight of the second layer. -/
theorem W2_at (c : Dev nD) (l : Fin 128) (k : Fin 64) :
    (show EReal from V m c main_v23 (ix2 l k)) = (show EReal from m ((c : Thread nD τ).loc main_arg5) (ix2 k l)) := by
  rw [W2_eq]
  pointwise

/-- A bias of the second layer. -/
theorem b2_at (c : Dev nD) (l : Fin 128) :
    (show EReal from V m c main_v24 (ix2 l 0)) = (show EReal from m ((c : Thread nD τ).loc main_arg6) (ix1 l)) := by
  rw [b2_eq]
  pointwise

/-- A weight of the third layer. -/
theorem W3_at (c : Dev nD) (l : Fin 128) :
    (show EReal from V m c main_v25 (ix2 0 l)) = (show EReal from m ((c : Thread nD τ).loc main_arg7) (ix2 l 0)) := by
  rw [W3_eq]
  pointwise

end Cert.KernelIdeal.Value

end
-- ==== Proof.Kernel.lean ====
/- What one grid point of the kernel computes: the sum of its block's 4096 electrons, which the first point stores and
   every later point adds. -/
module

public import proofs.«01_k».proof.Proof.Entry
public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block that each window takes at each point. -/
theorem idx : ∀ t : Fin cfg0.N, win0_0.index t = ![0] ∧ win0_1.index t = ![0, t.val] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- What electron `k` of the padded list adds to sample `u` of sensor `(i, j)`, in the kernel's order of operations,
    read off the arrays that the kernel is given. -/
def addend (C : FVec Ideal S3 .f32) (D : FVec Ideal S3x20480 .f32) (Z : FVec Ideal S20480x1 .f32)
    (gx gy : FVec Ideal S48x1 .f32) (W1 : FVec Ideal S64x2 .f32) (b1 : FVec Ideal S64x1 .f32)
    (W2 : FVec Ideal S128x64 .f32) (b2 : FVec Ideal S128x1 .f32) (W3 : FVec Ideal S1x128 .f32)
    (i j : Fin 48) (u : Fin 512) (k : Fin 20480) : EReal :=
  Ideal.exp ((gx (ix2 i 0) - D (ix2 0 k)) * (gx (ix2 i 0) - D (ix2 0 k)) * C (ix1 1))
      * ((∑ l : Fin 128, W3 (ix2 0 l) * max (∑ n : Fin 64, W2 (ix2 l n)
              * max (W1 (ix2 n 0) * D (ix2 0 k) + W1 (ix2 n 1) * D (ix2 1 k) + b1 (ix2 n 0)) 0 + b2 (ix2 l 0)) 0 + C (ix1 2))
          * D (ix2 2 k) * C (ix1 0))
    * Ideal.exp ((gy (ix2 j 0) - D (ix2 1 k)) * (gy (ix2 j 0) - D (ix2 1 k)) * C (ix1 1))
    * Ideal.exp ((FloatOps.sitofp (F := Ideal) .f32 (BitVec.ofNat 32 u) - Z (ix2 k 0))
        * (FloatOps.sitofp (F := Ideal) .f32 (BitVec.ofNat 32 u) - Z (ix2 k 0))
      * Named.named (F := Ideal) κ "neg_tenth" (φ := .f32) 0xBDCCCCCD#32)

/-- The same over the arrays held when the launch begins. -/
abbrev adds (c : Dev nD) (i j : Fin 48) (u : Fin 512) (k : Fin 20480) : EReal :=
  addend (V m c main_v20) (V m c main_v4) (V m c main_v6) (V m c main_v8) (V m c main_v9) (V m c main_v21)
    (V m c main_v22) (V m c main_v23) (V m c main_v24) (V m c main_v25) i j u k

/-- The grid has five points. -/
theorem point_lt (t : Fin cfg0.N) : t.val < 5 := lt_of_lt_of_eq t.isLt N_0

/-- What point `t` computes for row `r` and sample `u`: the sum over its 4096 electrons. -/
def blockSum (c : Dev nD) (t : Fin cfg0.N) (r : Fin 2304) (u : Fin 512) : EReal :=
  ∑ l : Fin 4096, adds m c ⟨r / 48, by omega⟩ ⟨r % 48, by omega⟩ u
    ⟨t.val * 4096 + l, by have := point_lt t; omega⟩

/-- The first point stores its sum. -/
theorem first (c : Dev nD) (t : Fin cfg0.N) (h0 : t.val % 5 = 0) (h1 : ¬ 1 ≤ t.val) (r : Fin 2304) (u : Fin 512) :
    outsAt0 m c t.val t.isLt (ix2 r u) = blockSum m c t r u := by
  rw [outsAt0_A m c t h0 h1]
  frame_out
  pointwise [k0_pay4, k0_pay3, k0_pay2, blockSum, addend, Fin.sum_univ_two]
  blk_point [iblk, idx t]

/-- A later point adds its sum to what the point before left. -/
theorem later (c : Dev nD) (t : Fin cfg0.N) (h0 : ¬ t.val % 5 = 0) (h1 : 1 ≤ t.val) (r : Fin 2304) (u : Fin 512) :
    outsAt0 m c t.val t.isLt (ix2 r u)
      = (show EReal from outsAt0 m c (t.val - 1) (Nat.lt_of_le_of_lt (Nat.sub_le _ _) t.isLt) (ix2 r u))
        + blockSum m c t r u := by
  rw [outsAt0_B m c t h0 h1]
  frame_out
  pointwise [k0_pay4, k0_pay3, k0_pay2, k0_pay1, blockSum, addend, Fin.sum_univ_two]
  blk_point [iblk, idx t]

end Cert.KernelIdeal.Value

end
-- ==== Proof.Final.lean ====
/- The kernel's result array after the launch and after the closing reshape. -/
module

public import proofs.«01_k».proof.Proof.Kernel

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- At row `r` and sample `u`, the sum of the addends of the whole padded list. -/
def rowTotal (c : Dev nD) (r : Fin 2304) (u : Fin 512) : EReal :=
  ∑ k : Fin 20480, adds m c ⟨r / 48, by omega⟩ ⟨r % 48, by omega⟩ u k

/-- The launch's result. -/
def total (c : Dev nD) : FVec Ideal S2304x512 .f32 := fun y => rowTotal m c (y 0) (y 1)

/-- The points' sums add up to the sum over the whole list. -/
theorem sum_points (c : Dev nD) (r : Fin 2304) (u : Fin 512) :
    ∑ p : Fin cfg0.N, blockSum m c p r u = rowTotal m c r u := by
  unfold blockSum rowTotal
  exact Fin.sum_mul_add_congr (fun p l hl => rfl) (by rw [show cfg0.N = 5 from N_0])

/-- The launch leaves the total in its result array. -/
theorem final (c : Dev nD) : (dats m 0 c).arrAt 10 (cfgs 0).N = total m c := by
  refine (dats m 0 c).arrAt_eq_of_after_last 10 t0_4 (by decide +kernel) _ fun y => ?_
  blk_simp
  rw [after0_10, Pipeline.eq_sum_fin_of_reset_step_apply_last (M := EReal) (fun n h => outsAt0 m c n h) 5 (fun _ => 0)
    (fun p y => blockSum m c p (y 0) (y 1))
    (fun t h y => by
      idx_vars y
      exact (first m c t h (by have := point_lt t; omega) _ _).trans (zero_add _).symm)
    (fun t h y => by
      idx_vars y
      exact later m c t h (by omega) _ _)
    (le_of_eq N_0) t0_4 rfl y, zero_add]
  exact sum_points m c (y 0) (y 1)

/-- After the launch the result is given its three axes. -/
theorem tail (c : Dev nD) :
    Pipeline.afterTail₀ cfgs (dats m) 0 (V0 m) [hostOps1] c main_v27
      = (shapeCast S48x48x512 (total m c) shapeCasts_S2304x512_S48x48x512 : FVec Ideal S48x48x512 .f32) := by
  unfold Pipeline.afterTail₀
  simp only [hostOps1, List.flatten_cons, List.flatten_nil, List.append_nil]
  after_results_simp
  have h : Pipeline.withArrays (cfgs 0).spec c (V0 m c) (fun w => (dats m 0 c).arrAt w (cfgs 0).N)
      (Proc.tc.devRef main_v26) = (dats m 0 c).arrAt 10 (cfgs 0).N :=
    Pipeline.withArrays_arr spec0 launch0.win.arr_inj c (V0 m c) (fun w => (dats m 0 c).arrAt w (cfgs 0).N) 10
  rw [h, final m c]
  rfl

/-- The kernel's result at sensor `(i, j)` and sample `u`. -/
theorem result_at (c : Dev nD) (i j : Fin 48) (u : Fin 512) :
    (shapeCast S48x48x512 (total m c) shapeCasts_S2304x512_S48x48x512 : FVec Ideal S48x48x512 .f32) (ix3 i j u)
      = ∑ k : Fin 20480, adds m c i j u k := by
  pointwise [total]
  unfold rowTotal
  refine Finset.sum_congr rfl fun k _ => ?_
  have hi : ((i : ℕ) * 48 + j) / 48 = i := by omega
  have hj : ((i : ℕ) * 48 + j) % 48 = j := by omega
  simp only [hi, hj, Fin.eta]

end Cert.KernelIdeal.Value

end
-- ==== Proof.Arith.lean ====
/- Scalar facts about the extended reals that the comparison of the two programs rests on. -/
module

public import Idealize.ShloMosaic.PureOps.Ideal

@[expose] public section

set_option maxRecDepth 16384

noncomputable section

namespace Cert.Arith

open Idealize.ShloMosaic

/-- The word `0x41200000` denotes the real ten. -/
theorem ofBits_ten : Ideal.ofBits .f32 0x41200000#32 = ((10 : ℝ) : EReal) := by
  simp [Ideal.ofBits, Ideal.ieee, -EReal.coe_mul]; norm_num

/-- The word `0x40206C22`, the rounded square root of two pi, does not denote zero. -/
theorem ofBits_elNorm_ne : Ideal.ofBits .f32 0x40206C22#32 ≠ 0 := by
  have h : Ideal.ofBits .f32 0x40206C22#32 = ((5256721 / 2097152 : ℝ) : EReal) := by
    simp [Ideal.ofBits, Ideal.ieee, -EReal.coe_mul]; norm_num
  rw [h]
  intro h0
  have := EReal.coe_eq_zero.1 h0
  norm_num at this

/-- The exponential at minus infinity. -/
theorem exp_bot : Ideal.exp ⊥ = 0 := rfl
/-- The exponential at infinity. -/
theorem exp_top : Ideal.exp ⊤ = ⊤ := rfl
/-- The exponential at a real. -/
theorem exp_coe (a : ℝ) : Ideal.exp (a : EReal) = ((Real.exp a : ℝ) : EReal) := rfl

/-- The exponential turns a sum into a product, at the infinities too. -/
theorem exp_add (a b : EReal) : Ideal.exp (a + b) = Ideal.exp a * Ideal.exp b := by
  induction a using EReal.rec with
  | bot => rw [EReal.bot_add, exp_bot, zero_mul]
  | top =>
    induction b using EReal.rec with
    | bot => rw [EReal.add_bot, exp_bot, mul_zero]
    | top => rw [EReal.top_add_top, exp_top, EReal.top_mul_top]
    | coe b => rw [EReal.top_add_coe, exp_top, exp_coe, EReal.top_mul_coe_of_pos (Real.exp_pos b)]
  | coe a =>
    induction b using EReal.rec with
    | bot => rw [EReal.add_bot, exp_bot, mul_zero]
    | top => rw [EReal.coe_add_top, exp_top, exp_coe, EReal.coe_mul_top_of_pos (Real.exp_pos a)]
    | coe b => rw [← EReal.coe_add, exp_coe, exp_coe, exp_coe, Real.exp_add, EReal.coe_mul]

/-- A square is not negative. -/
theorem sq_nonneg (a : EReal) : 0 ≤ a * a := by
  induction a using EReal.rec with
  | bot => simp
  | top => simp
  | coe a => rw [← EReal.coe_mul]; exact EReal.coe_nonneg.2 (mul_self_nonneg a)

/-- The square of a difference does not depend on its direction, at the infinities too. -/
theorem sq_sub_comm (a b : EReal) : (a - b) * (a - b) = (b - a) * (b - a) := by
  induction a using EReal.rec with
  | bot =>
    induction b using EReal.rec <;> simp
  | top =>
    induction b using EReal.rec <;> simp
  | coe a =>
    induction b using EReal.rec with
    | bot => simp
    | top => simp
    | coe b =>
      rw [← EReal.coe_sub, ← EReal.coe_sub, ← EReal.coe_mul, ← EReal.coe_mul]
      congr 1
      ring

/-- A division by something other than zero is the product with the inverse. -/
theorem div_ne {x y : EReal} (h : y ≠ 0) : Ideal.div x y = x * y⁻¹ := if_neg h

/-- The reference's quotient by ten is the kernel's product with the negated tenth. -/
theorem neg_div_ten (a : EReal) :
    Ideal.div (-a) (Ideal.ofBits .f32 0x41200000#32) = a * (((-10)⁻¹ : ℝ) : EReal) := by
  rw [ofBits_ten, div_ne (by intro h; have := EReal.coe_eq_zero.1 h; norm_num at this), ← EReal.coe_inv,
    neg_mul, ← mul_neg, ← EReal.coe_neg]
  congr 2
  norm_num

/-- One electron's share of one sample of one sensor: the kernel's product is the reference's. Here `(x, y)` is the
    electron, `(gx, gy)` the sensor, `z` the electron's time, `u` the sample's, `r` the light yield, `w` the mask and
    `s` the spread; `C`, `N` and `H` are constants of both programs. -/
theorem term_eq (x y gx gy z u r w s C N H : EReal) (hs : s ≠ 0) :
    Ideal.exp ((gx - x) * (gx - x) * Ideal.div H (s * s))
          * (r * w * (Ideal.div C (s * Ideal.ofBits .f32 0x40206C22#32) * N))
        * Ideal.exp ((gy - y) * (gy - y) * Ideal.div H (s * s))
        * Ideal.exp ((u - z) * (u - z) * (((-10)⁻¹ : ℝ) : EReal))
      = Ideal.exp (Ideal.div (-((u - z) * (u - z))) (Ideal.ofBits .f32 0x41200000#32)) * N * w
        * (Ideal.div (C * Ideal.exp (Ideal.div (H * ((x - gx) * (x - gx) + (y - gy) * (y - gy))) (s * s)))
            (s * Ideal.ofBits .f32 0x40206C22#32) * r) := by
  have hss : s * s ≠ 0 := mul_ne_zero hs hs
  have hse : s * Ideal.ofBits .f32 0x40206C22#32 ≠ 0 := mul_ne_zero hs ofBits_elNorm_ne
  rw [neg_div_ten, div_ne hss, div_ne hss, div_ne hse, div_ne hse, sq_sub_comm gx x, sq_sub_comm gy y,
    show H * ((x - gx) * (x - gx) + (y - gy) * (y - gy)) * (s * s)⁻¹
      = ((x - gx) * (x - gx) + (y - gy) * (y - gy)) * (H * (s * s)⁻¹) by ac_rfl,
    EReal.right_distrib_of_nonneg (sq_nonneg _) (sq_nonneg _), exp_add]
  ac_rfl

end Cert.Arith

end
-- ==== Proof.RefValue.lean ====
/- The reference's result, read at one sensor and one sample: the sum over all electrons of the share of each. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The light yield of electron `(b, e)`: the three-layer network at its position. -/
def lightYield (X : FVec Ideal S4x5000x2 .f32) (W1 : FVec Ideal S2x64 .f32) (b1 : FVec Ideal S64 .f32)
    (W2 : FVec Ideal S64x128 .f32) (b2 : FVec Ideal S128 .f32) (W3 : FVec Ideal S128x1 .f32) (b3 : FVec Ideal S1 .f32)
    (b : Fin 4) (e : Fin 5000) : EReal :=
  ∑ l : Fin 128, max (∑ k : Fin 64, max (∑ d : Fin 2, X (ix3 b e d) * W1 (ix2 d k) + b1 (ix1 k)) 0 * W2 (ix2 k l)
      + b2 (ix1 l)) 0 * W3 (ix2 l 0) + b3 (ix1 0)

/-- What electron `(b, e)` adds to sample `t` of sensor `(i, j)`, in the reference's order of operations. -/
def share (X : FVec Ideal S4x5000x2 .f32) (Z M : FVec Ideal S4x5000 .f32) (W1 : FVec Ideal S2x64 .f32)
    (b1 : FVec Ideal S64 .f32) (W2 : FVec Ideal S64x128 .f32) (b2 : FVec Ideal S128 .f32)
    (W3 : FVec Ideal S128x1 .f32) (b3 s : FVec Ideal S1 .f32) (G : FVec Ideal S48x48x2 .f32)
    (i j : Fin 48) (t : Fin 512) (b : Fin 4) (e : Fin 5000) : EReal :=
  Ideal.exp (Ideal.div (-((FloatOps.sitofp (F := Ideal) .f32 (BitVec.ofNat 32 t) - Z (ix2 b e))
        * (FloatOps.sitofp (F := Ideal) .f32 (BitVec.ofNat 32 t) - Z (ix2 b e)))) (Ideal.ofBits .f32 0x41200000#32))
      * Ideal.ofBits .f32 0x3E36B1BE#32 * M (ix2 b e)
    * (Ideal.div (Ideal.ofBits .f32 0x42C80000#32
          * Ideal.exp (Ideal.div (Ideal.ofBits .f32 0xBF000000#32
              * ((X (ix3 b e 0) - G (ix3 i j 0)) * (X (ix3 b e 0) - G (ix3 i j 0))
                + (X (ix3 b e 1) - G (ix3 i j 1)) * (X (ix3 b e 1) - G (ix3 i j 1)))) (s (ix1 0) * s (ix1 0))))
        (s (ix1 0) * Ideal.ofBits .f32 0x40206C22#32)
      * lightYield X W1 b1 W2 b2 W3 b3 b e)

variable (m : (ℓ : Loc nD τ sig) → Buf (Elt Ideal) ℓ)

/-- The reference's result at sensor `(i, j)` and sample `t`: the sum of the shares of all electrons. -/
theorem result_at (c : Dev nD) (i j : Fin 48) (t : Fin 512) :
    (show EReal from res_main_v57 m c (ix3 i j t))
      = ∑ b : Fin 4, ∑ e : Fin 5000, share (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) i j t b e := by
  pointwise [res_main_v57, share, lightYield, Fin.sum_univ_two]

end Cert.ReferenceIdeal.Value

end
-- ==== Proof.Terms.lean ====
/- One electron's share, compared: the kernel's addend at an electron's place is the reference's share, and the
   addend of a padding entry is zero. -/
module

public import proofs.«01_k».proof.Proof.Arith
public import proofs.«01_k».proof.Proof.Kernel
public import proofs.«01_k».proof.Proof.RefValue

@[expose] public section

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Value (lightYield share)

/-- The named constant is the negated tenth. -/
theorem neg_tenth : Named.named (F := Ideal) κ "neg_tenth" (φ := .f32) 0xBDCCCCCD#32 = (((-10)⁻¹ : ℝ) : EReal) := rfl

/-- The addend at a padding entry, where the mask is zero, is zero. -/
theorem addend_pad (C : FVec Ideal S3 .f32) (D : FVec Ideal S3x20480 .f32) (Z : FVec Ideal S20480x1 .f32)
    (gx gy : FVec Ideal S48x1 .f32) (W1 : FVec Ideal S64x2 .f32) (b1 : FVec Ideal S64x1 .f32)
    (W2 : FVec Ideal S128x64 .f32) (b2 : FVec Ideal S128x1 .f32) (W3 : FVec Ideal S1x128 .f32)
    (i j : Fin 48) (u : Fin 512) (k : Fin 20480) (h : D (ix2 2 k) = (0 : EReal)) :
    addend C D Z gx gy W1 b1 W2 b2 W3 i j u k = 0 := by
  unfold addend
  rw [h, mul_zero, zero_mul, mul_zero, zero_mul, zero_mul]

/-- The addend at an electron's place is that electron's share. -/
theorem addend_eq (C : FVec Ideal S3 .f32) (D : FVec Ideal S3x20480 .f32) (Zc : FVec Ideal S20480x1 .f32)
    (gx gy : FVec Ideal S48x1 .f32) (W1c : FVec Ideal S64x2 .f32) (b1c : FVec Ideal S64x1 .f32)
    (W2c : FVec Ideal S128x64 .f32) (b2c : FVec Ideal S128x1 .f32) (W3c : FVec Ideal S1x128 .f32)
    (X : FVec Ideal S4x5000x2 .f32) (Z M : FVec Ideal S4x5000 .f32) (W1 : FVec Ideal S2x64 .f32)
    (b1 : FVec Ideal S64 .f32) (W2 : FVec Ideal S64x128 .f32) (b2 : FVec Ideal S128 .f32)
    (W3 : FVec Ideal S128x1 .f32) (b3 s : FVec Ideal S1 .f32) (G : FVec Ideal S48x48x2 .f32)
    (i j : Fin 48) (u : Fin 512) (b : Fin 4) (e : Fin 5000) (k : Fin 20480)
    (hx : D (ix2 0 k) = X (ix3 b e 0)) (hy : D (ix2 1 k) = X (ix3 b e 1)) (hm : D (ix2 2 k) = M (ix2 b e))
    (hz : Zc (ix2 k 0) = Z (ix2 b e))
    (hgx : gx (ix2 i 0) = G (ix3 i j 0)) (hgy : gy (ix2 j 0) = G (ix3 i j 1))
    (h0 : C (ix1 0) = Ideal.div (Ideal.ofBits .f32 0x42C80000#32) (s (ix1 0) * Ideal.ofBits .f32 0x40206C22#32)
      * Ideal.ofBits .f32 0x3E36B1BE#32)
    (h1 : C (ix1 1) = Ideal.div (Ideal.ofBits .f32 0xBF000000#32) (s (ix1 0) * s (ix1 0)))
    (h2 : C (ix1 2) = b3 (ix1 0))
    (hW1 : ∀ n d, W1c (ix2 n d) = W1 (ix2 d n)) (hb1 : ∀ n, b1c (ix2 n 0) = b1 (ix1 n))
    (hW2 : ∀ l n, W2c (ix2 l n) = W2 (ix2 n l)) (hb2 : ∀ l, b2c (ix2 l 0) = b2 (ix1 l))
    (hW3 : ∀ l, W3c (ix2 0 l) = W3 (ix2 l 0))
    (hs : s (ix1 0) ≠ (0 : EReal)) :
    addend C D Zc gx gy W1c b1c W2c b2c W3c i j u k = share X Z M W1 b1 W2 b2 W3 b3 s G i j u b e := by
  have hnet : (∑ l : Fin 128, W3c (ix2 0 l) * max (∑ n : Fin 64, W2c (ix2 l n)
        * max (W1c (ix2 n 0) * D (ix2 0 k) + W1c (ix2 n 1) * D (ix2 1 k) + b1c (ix2 n 0)) 0 + b2c (ix2 l 0)) 0
          + C (ix1 2) : EReal) = lightYield X W1 b1 W2 b2 W3 b3 b e := by
    unfold lightYield
    rw [h2]
    refine congrArg (· + b3 (ix1 0)) (Finset.sum_congr rfl fun l _ => ?_)
    rw [hW3 l, hb2 l, mul_comm (W3 _)]
    refine congrArg (fun v : EReal => max (v + b2 (ix1 l)) 0 * W3 (ix2 l 0)) (Finset.sum_congr rfl fun n _ => ?_)
    rw [hW2 l n, hb1 n, hW1 n 0, hW1 n 1, hx, hy, Fin.sum_univ_two, mul_comm (W2 _), mul_comm (W1 (ix2 0 n)),
      mul_comm (W1 (ix2 1 n))]
  unfold addend share
  rw [hnet, neg_tenth, hx, hy, hm, hz, hgx, hgy, h0, h1]
  exact Cert.Arith.term_eq _ _ _ _ _ _ _ _ _ _ _ _ hs

end Cert.KernelIdeal.Value

end
-- ==== Proof.Equal.lean ====
/- The two results are one: the kernel's sum over the padded list is the reference's sum over batches and electrons. -/
module

public import proofs.«01_k».proof.Proof.Entry
public import proofs.«01_k».proof.Proof.Final
public import proofs.«01_k».proof.Proof.Terms

@[expose] public section

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Value (share)

/-- A sum over the padded list whose padding entries are zero is the sum over batches and electrons. -/
theorem sum_padded (f : Fin 20480 → EReal) (h : ∀ k : Fin 20480, ¬ (k : ℕ) < 20000 → f k = 0) :
    ∑ k : Fin 20480, f k = ∑ b : Fin 4, ∑ e : Fin 5000, f (place b e) := by
  have hsplit : ∑ k : Fin 20480, f k
      = ∑ k : Fin 20000, f ⟨k, by omega⟩ + ∑ k : Fin 480, f ⟨20000 + k, by omega⟩ :=
    Fin.sum_univ_add (a := 20000) (b := 480) f
  have hzero : ∑ k : Fin 480, f ⟨20000 + k, by omega⟩ = 0 :=
    Finset.sum_eq_zero fun k _ => h _ (by simp)
  rw [hsplit, hzero, add_zero]
  exact (Fin.sum_mul_add_congr (f := fun k : Fin 20000 => f ⟨k, by omega⟩) (fun b e hl => rfl)).symm

variable (m : (ℓ : Loc nD τ sig) → Buf (Elt Ideal) ℓ)

/-- The kernel's result at sensor `(i, j)` and sample `u`, where the sensors stand on a grid and the spread is not
    zero. -/
theorem value_at (c : Dev nD) (i j : Fin 48) (u : Fin 512)
    (hx : (show EReal from m ((c : Thread nD τ).loc main_arg10) (ix3 i j 0)) = (show EReal from m ((c : Thread nD τ).loc main_arg10) (ix3 i 0 0)))
    (hy : (show EReal from m ((c : Thread nD τ).loc main_arg10) (ix3 i j 1)) = (show EReal from m ((c : Thread nD τ).loc main_arg10) (ix3 0 j 1)))
    (hs : (show EReal from m ((c : Thread nD τ).loc main_arg9) (ix1 0)) ≠ 0) :
    ∑ k : Fin 20480, adds m c i j u k
      = ∑ b : Fin 4, ∑ e : Fin 5000, share (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) i j u b e := by
  rw [sum_padded _ fun k hk => addend_pad _ _ _ _ _ _ _ _ _ _ i j u k (pad_at m c k hk)]
  refine Finset.sum_congr rfl fun b _ => Finset.sum_congr rfl fun e _ => ?_
  exact addend_eq _ _ _ _ _ _ _ _ _ _ _ _ _ _ _ _ _ _ _ _ _ i j u b e (place b e)
    (x_at m c b e) (y_at m c b e) (mask_at m c b e) (z_at m c b e)
    ((gx_at m c i).trans hx.symm) ((gy_at m c j).trans hy.symm) (const0 m c) (const1 m c) (const2 m c)
    (W1_at m c) (b1_at m c) (W2_at m c) (b2_at m c) (W3_at m c) hs

end Cert.KernelIdeal.Value

end
-- ==== Proof.Grid.lean ====
/- The precondition, read: the sensors stand on a grid and the spread is not zero. -/
module

public import proofs.«01_k».proof.Pre_sensor_grid
public import Idealize.ShloMosaic.Lib.Decide
public import Idealize.ShloMosaic.Lib.Pointwise

@[expose] public section

set_option maxRecDepth 16384

noncomputable section

namespace Cert.Pre_sensor_grid

open Idealize.ShloMosaic

/-- The shape relations that the precondition's operations take. -/
theorem shapes : Facts where
  slices_S48x48x2_S48x48x1_0_0_0 := by decide
  shapeCasts_S48x48x1_S48x48 := by decide
  slices_S48x48x2_S48x48x1_0_0_1 := by decide
  slices_S48x48_S48x1_0_0 := by decide
  bcast_S48x1_S48x48_0_1 := by decide
  slices_S48x48_S1x48_0_0 := by decide
  bcast_S1x48_S48x48_0_1 := by decide
  shapeCasts_S1_S_ := by decide
  bcast_S_S48x48 := by decide

/-- Three truth values whose bits' conjunction is one are all true. -/
theorem and_bits : ∀ p q r : Bool,
    IntOp.andi (IntOp.andi (BitVec.ofBool p) (BitVec.ofBool q)) (BitVec.ofBool r) = 1#1 → p = true ∧ q = true ∧ r = true := by
  decide

/-- At sensor `(i, j)`: its first coordinate is its row's, its second is its column's, and the spread is not zero. -/
theorem read [Facts] (X : FVec Ideal S4x5000x2 .f32) (Z M : FVec Ideal S4x5000 .f32) (W1 : FVec Ideal S2x64 .f32)
    (b1 : FVec Ideal S64 .f32) (W2 : FVec Ideal S64x128 .f32) (b2 : FVec Ideal S128 .f32)
    (W3 : FVec Ideal S128x1 .f32) (b3 s : FVec Ideal S1 .f32) (G : FVec Ideal S48x48x2 .f32)
    (h : fn (F := Ideal) X Z M W1 b1 W2 b2 W3 b3 s G = fun _ => 1#1) (i j : Fin 48) :
    (G (ix3 i j 0) : EReal) = G (ix3 i 0 0) ∧ (G (ix3 i j 1) : EReal) = G (ix3 0 j 1) ∧ s (ix1 0) ≠ (0 : EReal) := by
  have h' := congrFun h (ix2 i j)
  revert h'
  pointwise [fn]
  intro h'
  obtain ⟨hx, hy, hs⟩ := and_bits _ _ _ h'
  exact ⟨of_decide_eq_true hx, of_decide_eq_true hy, of_decide_eq_true hs⟩

end Cert.Pre_sensor_grid

end
-- ==== Proof.Claims.lean ====
/- The claims, one theorem each. -/
module

public import proofs.«01_k».proof.Defs
public import proofs.«01_k».proof.Proof.Equal
public import proofs.«01_k».proof.Proof.Grid
public import proofs.«01_k».proof.Proof.Gen.Kernel.Frame
public import proofs.«01_k».proof.Proof.Gen.KernelIdeal.Frame
public import proofs.«01_k».proof.Proof.Gen.ReferenceIdeal.Run
public import Idealize.ShloMosaic.Lib.Claim

@[expose] public section

set_option maxRecDepth 16384

noncomputable section

namespace Cert.Proof.Claims

open Idealize.ShloMosaic Idealize.SL.Sem

/-- The precondition's shape relations. -/
local instance : Cert.Pre_sensor_grid.Facts := Cert.Pre_sensor_grid.shapes

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_sensor_grid := fun m ρ _ => Cert.KernelIdeal.Gen.frame m ρ
theorem frame_ri : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)
theorem frame_ri_pre : Cert.quiescent_ReferenceIdeal_pre_sensor_grid := fun m ρ _ => frame_ri m ρ trivial

/-- The one rewrite: the printed float nearest to minus a tenth is read as minus a tenth. -/
theorem preserves : Cert.preserves_Kernel_KernelIdeal :=
  IdealRules.named_const.statement Cert.KernelIdeal.κ "neg_tenth" .f32 0xBDCCCCCD#32 (((-10)⁻¹ : ℝ) : EReal) rfl

/-- The two result arrays agree, from memories that agree on the arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_sensor_grid m)
    (hagree : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD) :
    Pipeline.afterTail₀ Cert.KernelIdeal.cfgs (Cert.KernelIdeal.Gen.dats m) 0 (Cert.KernelIdeal.Gen.V0 m)
        [Cert.KernelIdeal.Gen.hostOps1] c Cert.KernelIdeal.main_v27
      = Cert.ReferenceIdeal.Value.res_main_v57 m' c := by
  obtain ⟨h0, h1, h2, h3, h4, h5, h6, h7, h8, h9, h10⟩ := hagree c
  rw [Cert.KernelIdeal.Value.tail m c]
  funext y
  idx_vars y
  obtain ⟨hx, hy, hs⟩ := Cert.Pre_sensor_grid.read _ _ _ _ _ _ _ _ _ _ _ (hpre c) y0 y1
  refine (Cert.KernelIdeal.Value.result_at m c y0 y1 y2).trans
    ((Cert.KernelIdeal.Value.value_at m c y0 y1 y2 hx hy hs).trans
      (Eq.trans ?_ (Cert.ReferenceIdeal.Value.result_at m' c y0 y1 y2).symm))
  rw [h0, h1, h2, h3, h4, h5, h6, h7, h8, h9, h10]

/-- On sensors that stand on a grid, with a spread that is not zero, both results are the same array. -/
theorem algebraic : Cert.algebraic_KernelIdeal_ReferenceIdeal_pre_sensor_grid := by
  pair_intro
  · run_from Cert.KernelIdeal.Gen.run_main m g & Cert.KernelIdeal.Gen.unchanged m g
  · run_from Cert.ReferenceIdeal.Value.run m' g'
    exact (results_eq m m' hpre hagree c).symm

end Cert.Proof.Claims

end
-- ==== Proof.lean ====
/- The proof of the certificate's claim: the facts that the programs and the precondition state, then the claims in
   order. -/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, Cert.Pre_sensor_grid.shapes,
    Claims.frame_p, Claims.frame_pi, Claims.frame_pi_pre, Claims.frame_ri, Claims.frame_ri_pre, Claims.preserves,
    Claims.algebraic⟩

end Cert.Proof

end
